-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x4096x4096 : Shape := ⟨4, ![1, 1, 4096, 4096]⟩
abbrev S4096x4096 : Shape := ⟨2, ![4096, 4096]⟩
abbrev S_ : Shape := ⟨0, ![]⟩
abbrev S1x4096 : Shape := ⟨2, ![1, 4096]⟩
abbrev S15x4096 : Shape := ⟨2, ![15, 4096]⟩
abbrev S16x4096 : Shape := ⟨2, ![16, 4096]⟩
abbrev S16x1x4096 : Shape := ⟨3, ![16, 1, 4096]⟩
abbrev S256x4096 : Shape := ⟨2, ![256, 4096]⟩
abbrev S1x1x4096 : Shape := ⟨3, ![1, 1, 4096]⟩
abbrev S258x4096 : Shape := ⟨2, ![258, 4096]⟩

abbrev nBuf : Space → Nat
  | .hbm => 11
  | .vmem => 8
  | .smem => 0
  | _ => 0

abbrev bufTy : (tb : Table) → Fin (tcTables nBuf tb) → BufTy
  | .hbm, ⟨0, _⟩ => ⟨S1x1x4096x4096, .f32⟩
  | .hbm, ⟨1, _⟩ => ⟨S4096x4096, .f32⟩
  | .hbm, ⟨2, _⟩ => ⟨S_, .f32⟩
  | .hbm, ⟨3, _⟩ => ⟨S1x4096, .f32⟩
  | .hbm, ⟨4, _⟩ => ⟨S15x4096, .f32⟩
  | .hbm, ⟨5, _⟩ => ⟨S16x4096, .f32⟩
  | .hbm, ⟨6, _⟩ => ⟨S16x1x4096, .f32⟩
  | .hbm, ⟨7, _⟩ => ⟨S15x4096, .f32⟩
  | .hbm, ⟨8, _⟩ => ⟨S16x4096, .f32⟩
  | .hbm, ⟨9, _⟩ => ⟨S16x1x4096, .f32⟩
  | .hbm, ⟨10, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x4096, .f32⟩
  | .local _ .vmem, ⟨7, _⟩ => ⟨S256x4096, .f32⟩
  | _, _ => ⟨S1x1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x1x4096x4096 : Shape := ⟨4, ![1, 1, 4096, 4096]⟩
abbrev S_ : Shape := ⟨0, ![]⟩
abbrev S1x1x4098x4098 : Shape := ⟨4, ![1, 1, 4098, 4098]⟩
abbrev S4096x4096 : Shape := ⟨2, ![4096, 4096]⟩
abbrev S4094x4094 : Shape := ⟨2, ![4094, 4094]⟩
abbrev S1 : Shape := ⟨1, ![1]⟩
abbrev S2 : Shape := ⟨1, ![2]⟩

abbrev nBuf : Space → Nat
  | .hbm => 207
  | .vmem => 0
  | .smem => 0
  | _ => 0

abbrev hbmTy0_0 (i : Nat) : BufTy := match i % 128 with
  | 0 => ⟨S1x1x4096x4096, .f32⟩
  | 1 => ⟨S_, .i32⟩
  | 2 => ⟨S_, .f32⟩
  | 3 => ⟨S1x1x4098x4098, .f32⟩
  | 4 => ⟨S1x1x4096x4096, .f32⟩
  | 5 => ⟨S_, .f32⟩
  | 6 => ⟨S1x1x4096x4096, .f32⟩
  | 7 => ⟨S1x1x4096x4096, .f32⟩
  | 8 => ⟨S_, .f32⟩
  | 9 => ⟨S1x1x4096x4096, .f32⟩
  | 10 => ⟨S1x1x4096x4096, .f32⟩
  | 11 => ⟨S1x1x4096x4096, .f32⟩
  | 12 => ⟨S_, .f32⟩
  | 13 => ⟨S1x1x4096x4096, .f32⟩
  | 14 => ⟨S1x1x4096x4096, .f32⟩
  | 15 => ⟨S1x1x4096x4096, .f32⟩
  | 16 => ⟨S1x1x4096x4096, .f32⟩
  | 17 => ⟨S_, .f32⟩
  | 18 => ⟨S1x1x4096x4096, .f32⟩
  | 19 => ⟨S1x1x4096x4096, .f32⟩
  | 20 => ⟨S1x1x4096x4096, .f32⟩
  | 21 => ⟨S1x1x4096x4096, .f32⟩
  | 22 => ⟨S_, .f32⟩
  | 23 => ⟨S1x1x4096x4096, .f32⟩
  | 24 => ⟨S1x1x4096x4096, .f32⟩
  | 25 => ⟨S1x1x4096x4096, .f32⟩
  | 26 => ⟨S1x1x4096x4096, .f32⟩
  | 27 => ⟨S_, .f32⟩
  | 28 => ⟨S1x1x4096x4096, .f32⟩
  | 29 => ⟨S1x1x4096x4096, .f32⟩
  | 30 => ⟨S1x1x4096x4096, .f32⟩
  | 31 => ⟨S1x1x4096x4096, .f32⟩
  | 32 => ⟨S_, .f32⟩
  | 33 => ⟨S1x1x4096x4096, .f32⟩
  | 34 => ⟨S1x1x4096x4096, .f32⟩
  | 35 => ⟨S1x1x4096x4096, .f32⟩
  | 36 => ⟨S1x1x4096x4096, .f32⟩
  | 37 => ⟨S_, .f32⟩
  | 38 => ⟨S1x1x4096x4096, .f32⟩
  | 39 => ⟨S1x1x4096x4096, .f32⟩
  | 40 => ⟨S1x1x4096x4096, .f32⟩
  | 41 => ⟨S1x1x4096x4096, .f32⟩
  | 42 => ⟨S_, .f32⟩
  | 43 => ⟨S1x1x4096x4096, .f32⟩
  | 44 => ⟨S1x1x4096x4096, .f32⟩
  | 45 => ⟨S1x1x4096x4096, .f32⟩
  | 46 => ⟨S1x1x4096x4096, .f32⟩
  | 47 => ⟨S_, .f32⟩
  | 48 => ⟨S1x1x4096x4096, .f32⟩
  | 49 => ⟨S1x1x4096x4096, .f32⟩
  | 50 => ⟨S1x1x4096x4096, .f32⟩
  | 51 => ⟨S_, .i32⟩
  | 52 => ⟨S_, .f32⟩
  | 53 => ⟨S1x1x4098x4098, .f32⟩
  | 54 => ⟨S1x1x4096x4096, .f32⟩
  | 55 => ⟨S_, .f32⟩
  | 56 => ⟨S1x1x4096x4096, .f32⟩
  | 57 => ⟨S1x1x4096x4096, .f32⟩
  | 58 => ⟨S_, .f32⟩
  | 59 => ⟨S1x1x4096x4096, .f32⟩
  | 60 => ⟨S1x1x4096x4096, .f32⟩
  | 61 => ⟨S1x1x4096x4096, .f32⟩
  | 62 => ⟨S_, .f32⟩
  | 63 => ⟨S1x1x4096x4096, .f32⟩
  | 64 => ⟨S1x1x4096x4096, .f32⟩
  | 65 => ⟨S1x1x4096x4096, .f32⟩
  | 66 => ⟨S1x1x4096x4096, .f32⟩
  | 67 => ⟨S_, .f32⟩
  | 68 => ⟨S1x1x4096x4096, .f32⟩
  | 69 => ⟨S1x1x4096x4096, .f32⟩
  | 70 => ⟨S1x1x4096x4096, .f32⟩
  | 71 => ⟨S1x1x4096x4096, .f32⟩
  | 72 => ⟨S_, .f32⟩
  | 73 => ⟨S1x1x4096x4096, .f32⟩
  | 74 => ⟨S1x1x4096x4096, .f32⟩
  | 75 => ⟨S1x1x4096x4096, .f32⟩
  | 76 => ⟨S1x1x4096x4096, .f32⟩
  | 77 => ⟨S_, .f32⟩
  | 78 => ⟨S1x1x4096x4096, .f32⟩
  | 79 => ⟨S1x1x4096x4096, .f32⟩
  | 80 => ⟨S1x1x4096x4096, .f32⟩
  | 81 => ⟨S1x1x4096x4096, .f32⟩
  | 82 => ⟨S_, .f32⟩
  | 83 => ⟨S1x1x4096x4096, .f32⟩
  | 84 => ⟨S1x1x4096x4096, .f32⟩
  | 85 => ⟨S1x1x4096x4096, .f32⟩
  | 86 => ⟨S1x1x4096x4096, .f32⟩
  | 87 => ⟨S_, .f32⟩
  | 88 => ⟨S1x1x4096x4096, .f32⟩
  | 89 => ⟨S1x1x4096x4096, .f32⟩
  | 90 => ⟨S1x1x4096x4096, .f32⟩
  | 91 => ⟨S1x1x4096x4096, .f32⟩
  | 92 => ⟨S_, .f32⟩
  | 93 => ⟨S1x1x4096x4096, .f32⟩
  | 94 => ⟨S1x1x4096x4096, .f32⟩
  | 95 => ⟨S1x1x4096x4096, .f32⟩
  | 96 => ⟨S1x1x4096x4096, .f32⟩
  | 97 => ⟨S_, .f32⟩
  | 98 => ⟨S1x1x4096x4096, .f32⟩
  | 99 => ⟨S1x1x4096x4096, .f32⟩
  | 100 => ⟨S1x1x4096x4096, .f32⟩
  | 101 => ⟨S1x1x4096x4096, .f32⟩
  | 102 => ⟨S1x1x4096x4096, .f32⟩
  | 103 => ⟨S1x1x4096x4096, .f32⟩
  | 104 => ⟨S1x1x4096x4096, .f32⟩
  | 105 => ⟨S1x1x4096x4096, .f32⟩
  | 106 => ⟨S4096x4096, .f32⟩
  | 107 => ⟨S4096x4096, .f32⟩
  | 108 => ⟨S4094x4094, .f32⟩
  | 109 => ⟨S4094x4094, .f32⟩
  | 110 => ⟨S_, .f32⟩
  | 111 => ⟨S4094x4094, .f32⟩
  | 112 => ⟨S4094x4094, .i1⟩
  | 113 => ⟨S_, .f32⟩
  | 114 => ⟨S4094x4094, .f32⟩
  | 115 => ⟨S4094x4094, .i1⟩
  | 116 => ⟨S4094x4094, .i1⟩
  | 117 => ⟨S_, .f32⟩
  | 118 => ⟨S4094x4094, .f32⟩
  | 119 => ⟨S4094x4094, .i1⟩
  | 120 => ⟨S_, .f32⟩
  | 121 => ⟨S4094x4094, .f32⟩
  | 122 => ⟨S4094x4094, .i1⟩
  | 123 => ⟨S4094x4094, .i1⟩
  | 124 => ⟨S4094x4094, .i1⟩
  | 125 => ⟨S_, .f32⟩
  | 126 => ⟨S4094x4094, .f32⟩
  | 127 => ⟨S4094x4094, .i1⟩
  | _ => ⟨S1x1x4096x4096, .f32⟩

abbrev hbmTy0_1 (i : Nat) : BufTy := match i % 128 with
  | 0 => ⟨S_, .f32⟩
  | 1 => ⟨S4094x4094, .f32⟩
  | 2 => ⟨S4094x4094, .i1⟩
  | 3 => ⟨S4094x4094, .i1⟩
  | 4 => ⟨S4094x4094, .i1⟩
  | 5 => ⟨S_, .f32⟩
  | 6 => ⟨S4094x4094, .f32⟩
  | 7 => ⟨S4094x4094, .i1⟩
  | 8 => ⟨S_, .f32⟩
  | 9 => ⟨S4094x4094, .f32⟩
  | 10 => ⟨S4094x4094, .i1⟩
  | 11 => ⟨S4094x4094, .i1⟩
  | 12 => ⟨S_, .f32⟩
  | 13 => ⟨S4094x4094, .f32⟩
  | 14 => ⟨S4094x4094, .i1⟩
  | 15 => ⟨S_, .f32⟩
  | 16 => ⟨S4094x4094, .f32⟩
  | 17 => ⟨S4094x4094, .i1⟩
  | 18 => ⟨S4094x4094, .i1⟩
  | 19 => ⟨S4094x4094, .i1⟩
  | 20 => ⟨S_, .f32⟩
  | 21 => ⟨S4094x4094, .f32⟩
  | 22 => ⟨S4094x4094, .i1⟩
  | 23 => ⟨S_, .f32⟩
  | 24 => ⟨S4094x4094, .f32⟩
  | 25 => ⟨S4094x4094, .i1⟩
  | 26 => ⟨S4094x4094, .i1⟩
  | 27 => ⟨S_, .f32⟩
  | 28 => ⟨S4094x4094, .f32⟩
  | 29 => ⟨S4094x4094, .i1⟩
  | 30 => ⟨S_, .f32⟩
  | 31 => ⟨S4094x4094, .f32⟩
  | 32 => ⟨S4094x4094, .i1⟩
  | 33 => ⟨S4094x4094, .i1⟩
  | 34 => ⟨S4094x4094, .i1⟩
  | 35 => ⟨S4094x4094, .f32⟩
  | 36 => ⟨S4094x4094, .f32⟩
  | 37 => ⟨S4094x4094, .f32⟩
  | 38 => ⟨S4094x4094, .f32⟩
  | 39 => ⟨S4094x4094, .f32⟩
  | 40 => ⟨S4094x4094, .f32⟩
  | 41 => ⟨S4094x4094, .f32⟩
  | 42 => ⟨S4094x4094, .f32⟩
  | 43 => ⟨S4094x4094, .f32⟩
  | 44 => ⟨S4094x4094, .f32⟩
  | 45 => ⟨S4094x4094, .f32⟩
  | 46 => ⟨S4094x4094, .f32⟩
  | 47 => ⟨S4094x4094, .f32⟩
  | 48 => ⟨S4094x4094, .f32⟩
  | 49 => ⟨S4094x4094, .i1⟩
  | 50 => ⟨S4094x4094, .i1⟩
  | 51 => ⟨S4094x4094, .i1⟩
  | 52 => ⟨S_, .f32⟩
  | 53 => ⟨S4094x4094, .f32⟩
  | 54 => ⟨S4094x4094, .f32⟩
  | 55 => ⟨S_, .f32⟩
  | 56 => ⟨S4096x4096, .f32⟩
  | 57 => ⟨S_, .i32⟩
  | 58 => ⟨S1, .i32⟩
  | 59 => ⟨S_, .i32⟩
  | 60 => ⟨S1, .i32⟩
  | 61 => ⟨S2, .i32⟩
  | 62 => ⟨S4096x4096, .f32⟩
  | 63 => ⟨S_, .f32⟩
  | 64 => ⟨S4096x4096, .f32⟩
  | 65 => ⟨S4096x4096, .i1⟩
  | 66 => ⟨S_, .f32⟩
  | 67 => ⟨S4096x4096, .f32⟩
  | 68 => ⟨S4096x4096, .i1⟩
  | 69 => ⟨S_, .f32⟩
  | 70 => ⟨S4096x4096, .f32⟩
  | 71 => ⟨S4096x4096, .i1⟩
  | 72 => ⟨S4096x4096, .i1⟩
  | 73 => ⟨S_, .f32⟩
  | 74 => ⟨S4096x4096, .f32⟩
  | 75 => ⟨S4096x4096, .f32⟩
  | 76 => ⟨S_, .f32⟩
  | 77 => ⟨S4096x4096, .f32⟩
  | 78 => ⟨S4096x4096, .f32⟩
  | _ => ⟨S1x1x4096x4096, .f32⟩

abbrev hbmTy (i : Nat) : BufTy := match i / 128 with
  | 0 => hbmTy0_0 i
  | 1 => hbmTy0_1 i
  | _ => ⟨S1x1x4096x4096, .f32⟩

abbrev bufTy : (tb : Table) → Fin (tcTables nBuf tb) → BufTy
  | .hbm, ⟨i, _⟩ => hbmTy i
  | _, _ => ⟨S1x1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_9 : Ref sig .tc := ⟨.hbm, 51, rfl⟩
abbrev main_call1_v0 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_16 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_17 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_18 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_19 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_20 : Ref sig .tc := ⟨.hbm, 110, rfl⟩
abbrev main_v85 : Ref sig .tc := ⟨.hbm, 111, rfl⟩
abbrev main_v86 : Ref sig .tc := ⟨.hbm, 112, rfl⟩
abbrev main_cst_21 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_22 : Ref sig .tc := ⟨.hbm, 117, rfl⟩
abbrev main_v90 : Ref sig .tc := ⟨.hbm, 118, rfl⟩
abbrev main_v91 : Ref sig .tc := ⟨.hbm, 119, rfl⟩
abbrev main_cst_23 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_24 : Ref sig .tc := ⟨.hbm, 125, rfl⟩
abbrev main_v96 : Ref sig .tc := ⟨.hbm, 126, rfl⟩
abbrev main_v97 : Ref sig .tc := ⟨.hbm, 127, rfl⟩
abbrev main_cst_25 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_26 : Ref sig .tc := ⟨.hbm, 133, rfl⟩
abbrev main_v102 : Ref sig .tc := ⟨.hbm, 134, rfl⟩
abbrev main_v103 : Ref sig .tc := ⟨.hbm, 135, rfl⟩
abbrev main_cst_27 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_28 : Ref sig .tc := ⟨.hbm, 140, rfl⟩
abbrev main_v107 : Ref sig .tc := ⟨.hbm, 141, rfl⟩
abbrev main_v108 : Ref sig .tc := ⟨.hbm, 142, rfl⟩
abbrev main_cst_29 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_30 : Ref sig .tc := ⟨.hbm, 148, rfl⟩
abbrev main_v113 : Ref sig .tc := ⟨.hbm, 149, rfl⟩
abbrev main_v114 : Ref sig .tc := ⟨.hbm, 150, rfl⟩
abbrev main_cst_31 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_32 : Ref sig .tc := ⟨.hbm, 155, rfl⟩
abbrev main_v118 : Ref sig .tc := ⟨.hbm, 156, rfl⟩
abbrev main_v119 : Ref sig .tc := ⟨.hbm, 157, rfl⟩
abbrev main_cst_33 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_34 : Ref sig .tc := ⟨.hbm, 180, rfl⟩
abbrev main_v141 : Ref sig .tc := ⟨.hbm, 181, rfl⟩
abbrev main_v142 : Ref sig .tc := ⟨.hbm, 182, rfl⟩
abbrev main_cst_35 : Ref sig .tc := ⟨.hbm, 183, rfl⟩
abbrev main_v143 : Ref sig .tc := ⟨.hbm, 184, rfl⟩
abbrev main_c_36 : Ref sig .tc := ⟨.hbm, 185, rfl⟩
abbrev main_v144 : Ref sig .tc := ⟨.hbm, 186, rfl⟩
abbrev main_c_37 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_38 : Ref sig .tc := ⟨.hbm, 191, rfl⟩
abbrev main_v148 : Ref sig .tc := ⟨.hbm, 192, rfl⟩
abbrev main_v149 : Ref sig .tc := ⟨.hbm, 193, rfl⟩
abbrev main_cst_39 : Ref sig .tc := ⟨.hbm, 194, rfl⟩
abbrev main_v150 : Ref sig .tc := ⟨.hbm, 195, rfl⟩
abbrev main_v151 : Ref sig .tc := ⟨.hbm, 196, rfl⟩
abbrev main_cst_40 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_41 : Ref sig .tc := ⟨.hbm, 201, rfl⟩
abbrev main_call9_v0 : Ref sig .tc := ⟨.hbm, 202, rfl⟩
abbrev main_v155 : Ref sig .tc := ⟨.hbm, 203, rfl⟩
abbrev main_cst_42 : Ref sig .tc := ⟨.hbm, 204, rfl⟩
abbrev main_call10_v0 : Ref sig .tc := ⟨.hbm, 205, rfl⟩
abbrev main_v156 : Ref sig .tc := ⟨.hbm, 206, rfl⟩

abbrev nD : Nat := 1
abbrev τ : Topo := Topo.v7x

variable {F : FTy → Type} [FloatOps F]
-- ==== Proof.Gradient.lean ====
/- The two gradients of the image, the magnitude they give, the suppressed edge and its label, as functions of a padded
   image over the extended reals; and the equations between the kernel's order of summation and the reference's. -/
module

public import Idealize.ShloMosaic.PureOps.Ideal
public import Idealize.ShloMosaic.PureOps.Ideal.Laws
public import Idealize.ShloMosaic.Lib.IdealHost
public import Mathlib.Analysis.SpecialFunctions.Trigonometric.Arctan

@[expose] public section

noncomputable section

namespace Cert.Sobel

open Idealize.ShloMosaic

/-! ## Constants -/

theorem two_f32 : Ideal.ofBits .f32 0x40000000#32 = ((2 : ℝ) : EReal) := by
  simp [Ideal.ofBits, Ideal.ieee, -EReal.coe_mul]; norm_num

theorem neg_one_f32 : Ideal.ofBits .f32 0xBF800000#32 = ((-1 : ℝ) : EReal) := by
  simp [Ideal.ofBits, Ideal.ieee, -EReal.coe_mul, -EReal.coe_neg]; norm_num

theorem neg_two_f32 : Ideal.ofBits .f32 0xC0000000#32 = ((-2 : ℝ) : EReal) := by
  simp [Ideal.ofBits, Ideal.ieee, -EReal.coe_mul, -EReal.coe_neg]; norm_num

theorem band_f32 : Ideal.ofBits .f32 0x41B40000#32 = ((22.5 : ℝ) : EReal) := by
  simp [Ideal.ofBits, Ideal.ieee, -EReal.coe_mul]; norm_num

theorem neg_band_f32 : Ideal.ofBits .f32 0xC1B40000#32 = ((-22.5 : ℝ) : EReal) := by
  simp [Ideal.ofBits, Ideal.ieee, -EReal.coe_mul, -EReal.coe_neg]; norm_num

/-! ## Infinite values -/

/-- An infinite extended real. -/
def Inf (a : EReal) : Prop := a = ⊤ ∨ a = ⊥

theorem inf_coe (r : ℝ) : ¬ Inf (r : EReal) := by simp [Inf]

theorem exists_coe {a : EReal} (h : ¬ Inf a) : ∃ r : ℝ, a = r := by
  induction a with
  | bot => exact absurd (Or.inr rfl) h
  | top => exact absurd (Or.inl rfl) h
  | coe r => exact ⟨r, rfl⟩

theorem inf_add (a b : EReal) : Inf (a + b) ↔ Inf a ∨ Inf b := by
  induction a <;> induction b <;> simp [Inf, ← EReal.coe_add]

theorem inf_sub (a b : EReal) : Inf (a - b) ↔ Inf a ∨ Inf b := by
  rw [sub_eq_add_neg, inf_add]
  simp [Inf, or_comm]

theorem inf_coe_mul {r : ℝ} (hr : r ≠ 0) (a : EReal) : Inf ((r : EReal) * a) ↔ Inf a := by
  induction a with
  | coe x => simp [Inf, ← EReal.coe_mul]
  | bot => rcases lt_or_gt_of_ne hr with h | h
           · simp [Inf, EReal.coe_mul_bot_of_neg h]
           · simp [Inf, EReal.coe_mul_bot_of_pos h]
  | top => rcases lt_or_gt_of_ne hr with h | h
           · simp [Inf, EReal.coe_mul_top_of_neg h]
           · simp [Inf, EReal.coe_mul_top_of_pos h]

/-- The square of an infinite value is the top. -/
theorem inf_sq {a : EReal} (h : Inf a) : a * a = ⊤ := by
  rcases h with rfl | rfl <;> rfl

theorem sq_ne_bot (a : EReal) : a * a ≠ ⊥ := by
  induction a with
  | coe x => rw [← EReal.coe_mul]; exact EReal.coe_ne_bot _
  | bot => simp
  | top => simp

/-- Two values that are infinite together and agree otherwise have one square. -/
theorem sq_eq_of {a b : EReal} (hi : Inf a ↔ Inf b) (hf : ¬ Inf a → a = b) : a * a = b * b := by
  by_cases h : Inf a
  · rw [inf_sq h, inf_sq (hi.mp h)]
  · rw [hf h]

/-! ## The padded image -/

/-- An image with one row and one column of zeros around it. -/
def padded (x : Fin 4096 → Fin 4096 → EReal) (r c : ℕ) : EReal :=
  if h : (1 ≤ r ∧ r < 4097) ∧ 1 ≤ c ∧ c < 4097 then x ⟨r - 1, by omega⟩ ⟨c - 1, by omega⟩ else 0

theorem padded_inner (x : Fin 4096 → Fin 4096 → EReal) (r c : Fin 4096) : padded x (r.val + 1) (c.val + 1) = x r c := by
  have hr := r.isLt
  have hc := c.isLt
  rw [padded, dif_pos (by omega)]
  rfl

/-! ## The gradients, the magnitude, the edge and its label -/

/-- One, two, one down a column of the padded image. -/
def colSum (P : ℕ → ℕ → EReal) (i j : ℕ) : EReal := (P i j + ((2 : ℝ) : EReal) * P (i + 1) j) + P (i + 2) j

/-- The row two below taken from a row of the padded image. -/
def rowDiff (P : ℕ → ℕ → EReal) (i j : ℕ) : EReal := P i j - P (i + 2) j

def gradX (P : ℕ → ℕ → EReal) (i j : ℕ) : EReal := colSum P i (j + 2) - colSum P i j

def gradY (P : ℕ → ℕ → EReal) (i j : ℕ) : EReal :=
  (rowDiff P i j + ((2 : ℝ) : EReal) * rowDiff P i (j + 1)) + rowDiff P i (j + 2)

/-- The gradient's magnitude. -/
def mag (P : ℕ → ℕ → EReal) (i j : ℕ) : EReal :=
  Ideal.sqrt (gradX P i j * gradX P i j + gradY P i j * gradY P i j)

/-- The magnitude at an inner pixel that neither its left nor its right neighbour exceeds, zero elsewhere. -/
def edge (P : ℕ → ℕ → EReal) (i j : ℕ) : EReal :=
  if (1 ≤ i ∧ i ≤ 4094 ∧ 1 ≤ j ∧ j ≤ 4094) ∧ mag P i (j - 1) ≤ mag P i j ∧ mag P i (j + 1) ≤ mag P i j
  then mag P i j else 0

/-- The label of an edge: 255 above the high threshold, zero from the low one up to it, itself below. -/
def label (e : EReal) : EReal :=
  if Ideal.ofBits .f32 0x3E19999A#32 < e then Ideal.ofBits .f32 0x437F0000#32
  else if Ideal.ofBits .f32 0x3D4CCCCD#32 ≤ e then 0 else e

/-! ## The reference's gradients -/

/-- The reference's horizontal gradient, the products in row order. -/
def refX (P : ℕ → ℕ → EReal) (i j : ℕ) : EReal :=
  ((-1 : ℝ) : EReal) * P i j + P i (j + 2) + ((-2 : ℝ) : EReal) * P (i + 1) j + ((2 : ℝ) : EReal) * P (i + 1) (j + 2)
    + ((-1 : ℝ) : EReal) * P (i + 2) j + P (i + 2) (j + 2)

/-- The reference's vertical gradient, the products in row order. -/
def refY (P : ℕ → ℕ → EReal) (i j : ℕ) : EReal :=
  P i j + ((2 : ℝ) : EReal) * P i (j + 1) + P i (j + 2) + ((-1 : ℝ) : EReal) * P (i + 2) j
    + ((-2 : ℝ) : EReal) * P (i + 2) (j + 1) + ((-1 : ℝ) : EReal) * P (i + 2) (j + 2)

theorem refX_sq (P : ℕ → ℕ → EReal) (i j : ℕ) : refX P i j * refX P i j = gradX P i j * gradX P i j := by
  have h1 : (-1 : ℝ) ≠ 0 := by norm_num
  have h2 : (2 : ℝ) ≠ 0 := by norm_num
  have h3 : (-2 : ℝ) ≠ 0 := by norm_num
  apply sq_eq_of
  · simp only [refX, gradX, colSum, inf_add, inf_sub, inf_coe_mul h1, inf_coe_mul h2, inf_coe_mul h3]
    tauto
  · intro h
    simp only [refX, inf_add, inf_coe_mul h1, inf_coe_mul h2, inf_coe_mul h3, not_or] at h
    obtain ⟨⟨⟨⟨⟨ha, hc⟩, hd⟩, hf⟩, hg⟩, hi⟩ := h
    obtain ⟨a, ha⟩ := exists_coe ha
    obtain ⟨c, hc⟩ := exists_coe hc
    obtain ⟨d, hd⟩ := exists_coe hd
    obtain ⟨f, hf⟩ := exists_coe hf
    obtain ⟨g, hg⟩ := exists_coe hg
    obtain ⟨k, hk⟩ := exists_coe hi
    simp only [refX, gradX, colSum, ha, hc, hd, hf, hg, hk, ← EReal.coe_mul, ← EReal.coe_add, ← EReal.coe_sub]
    congr 1
    ring

theorem refY_sq (P : ℕ → ℕ → EReal) (i j : ℕ) : refY P i j * refY P i j = gradY P i j * gradY P i j := by
  have h1 : (-1 : ℝ) ≠ 0 := by norm_num
  have h2 : (2 : ℝ) ≠ 0 := by norm_num
  have h3 : (-2 : ℝ) ≠ 0 := by norm_num
  apply sq_eq_of
  · simp only [refY, gradY, rowDiff, inf_add, inf_sub, inf_coe_mul h1, inf_coe_mul h2, inf_coe_mul h3]
    tauto
  · intro h
    simp only [refY, inf_add, inf_coe_mul h1, inf_coe_mul h2, inf_coe_mul h3, not_or] at h
    obtain ⟨⟨⟨⟨⟨ha, hc⟩, hd⟩, hf⟩, hg⟩, hi⟩ := h
    obtain ⟨a, ha⟩ := exists_coe ha
    obtain ⟨c, hc⟩ := exists_coe hc
    obtain ⟨d, hd⟩ := exists_coe hd
    obtain ⟨f, hf⟩ := exists_coe hf
    obtain ⟨g, hg⟩ := exists_coe hg
    obtain ⟨k, hk⟩ := exists_coe hi
    simp only [refY, gradY, rowDiff, ha, hc, hd, hf, hg, hk, ← EReal.coe_mul, ← EReal.coe_add, ← EReal.coe_sub]
    congr 1
    ring

/-- Both orders of summation give one magnitude. -/
theorem refMag (P : ℕ → ℕ → EReal) (i j : ℕ) :
    Ideal.sqrt (refX P i j * refX P i j + refY P i j * refY P i j) = mag P i j := by
  rw [refX_sq, refY_sq, mag]

/-! ## The direction -/

/-- The angle of two real gradients is in radians, so it never leaves the first band of degrees. -/
theorem angle_band (y x : ℝ) :
    ((-22.5 : ℝ) : EReal) ≤ Ideal.atan2 y x ∧ Ideal.atan2 y x ≤ ((22.5 : ℝ) : EReal) := by
  have hp := Real.pi_le_four
  have hq := Real.pi_pos
  have hl := Real.neg_pi_div_two_lt_arctan (y / x)
  have hu := Real.arctan_lt_pi_div_two (y / x)
  have he : Ideal.atan2 y x = ((if 0 < x then Real.arctan (y / x)
      else if x < 0 then (if 0 ≤ y then Real.arctan (y / x) + Real.pi else Real.arctan (y / x) - Real.pi)
      else if 0 < y then Real.pi / 2 else if y < 0 then -(Real.pi / 2) else 0 : ℝ) : EReal) := rfl
  rw [he, EReal.coe_le_coe_iff, EReal.coe_le_coe_iff]
  split_ifs <;> constructor <;> linarith

/-- An infinite gradient has the top as its magnitude. -/
theorem sqrt_inf {x y : EReal} (h : Inf x ∨ Inf y) : Ideal.sqrt (x * x + y * y) = ⊤ := by
  rcases h with h | h
  · rw [inf_sq h, EReal.top_add_of_ne_bot (sq_ne_bot y), Ideal.sqrt_top]
  · rw [inf_sq h, EReal.add_top_of_ne_bot (sq_ne_bot x), Ideal.sqrt_top]

/-- The neighbour the reference compares with: where the angle is in the first band it is the one beside the pixel, and
    otherwise a gradient is infinite and the magnitude is at least anything. -/
theorem side_le {x y l o : EReal} {b : Prop} [Decidable b]
    (hb : ((-22.5 : ℝ) : EReal) ≤ Ideal.atan2 y x ∧ Ideal.atan2 y x ≤ ((22.5 : ℝ) : EReal) → b) :
    (if b then l else o) ≤ Ideal.sqrt (x * x + y * y) ↔ l ≤ Ideal.sqrt (x * x + y * y) := by
  by_cases h : Inf x ∨ Inf y
  · simp [sqrt_inf h]
  · obtain ⟨hx, hy⟩ := not_or.mp h
    obtain ⟨a, rfl⟩ := exists_coe hx
    obtain ⟨c, rfl⟩ := exists_coe hy
    rw [if_pos (hb (angle_band c a))]

/-- The label with the high threshold checked twice. -/
theorem label_eq (e : EReal) :
    (if Ideal.ofBits .f32 0x3E19999A#32 < e then Ideal.ofBits .f32 0x437F0000#32
      else if Ideal.ofBits .f32 0x3D4CCCCD#32 ≤ e ∧ e ≤ Ideal.ofBits .f32 0x3E19999A#32 then 0 else e) = label e := by
  unfold label
  split_ifs with h1 h2 h3 h3
  · rfl
  · rfl
  · exact absurd h2.1 h3
  · exact absurd ⟨h3, not_lt.mp h1⟩ h2
  · rfl

end Cert.Sobel

end
-- ==== Proof.Block.lean ====
/- What the kernel's body computes from one block of rows and the row above and the row below it: the label of the
   suppressed edge at each pixel of the block. -/
module

public import proofs.«01_k».proof.Proof.Gen.KernelIdeal.Skeleton
public import proofs.«01_k».proof.Proof.Gradient
public import Idealize.ShloMosaic.Lib.Pointwise
public import Idealize.ShloMosaic.Lib.WordCmp
public import Idealize.ShloMosaic.Lib.Affine

@[expose] public section

noncomputable section

namespace Cert.Sobel.Block

open Idealize.ShloMosaic Cert.KernelIdeal Cert.KernelIdeal.Gen

/-- A block of 256 rows and its two neighbouring rows, read from row `i0` of a padded image on. -/
structure Reads (P : ℕ → ℕ → EReal) (i0 : ℕ) (x : S256x4096.Idx → EReal) (top bot : S1x1x4096.Idx → EReal) : Prop where
  left : ∀ i, P i 0 = 0
  right : ∀ i, P i 4097 = 0
  mid : ∀ (r : Fin 256) (c : Fin 4096), x (ix2 r c) = P (i0 + (r.val + 1)) (c.val + 1)
  above : ∀ c : Fin 4096, top (ix3 0 0 c) = P i0 (c.val + 1)
  below : ∀ c : Fin 4096, bot (ix3 0 0 c) = P (i0 + 257) (c.val + 1)

variable {P : ℕ → ℕ → EReal} {i0 : ℕ} {x : S256x4096.Idx → EReal} {top bot : S1x1x4096.Idx → EReal}

/-- The block with its two neighbouring rows. -/
theorem rows_apply (h : Reads P i0 x top bot) (r : Fin 258) (c : Fin 4096) :
    k0_pay2 (F := Ideal) x top bot (ix2 r c) = P (i0 + r.val) (c.val + 1) := by
  unfold k0_pay2
  pointwise
  by_cases h1 : r.val < 1
  · rw [dif_pos h1, h.above, show i0 + r.val = i0 by omega]
  · rw [dif_neg h1]
    by_cases h2 : r.val - 1 < 256
    · rw [dif_pos h2, h.mid]
      congr 1
      simp only
      omega
    · rw [dif_neg h2, h.below, show i0 + r.val = i0 + 257 by omega]

theorem row0_apply (h : Reads P i0 x top bot) (r : Fin 256) (c : Fin 4096) :
    k0_pay3 (F := Ideal) x top bot (ix2 r c) = P (i0 + r.val) (c.val + 1) := by
  unfold k0_pay3
  pointwise
  exact rows_apply h ⟨r.val, _⟩ c

theorem row2_apply (h : Reads P i0 x top bot) (r : Fin 256) (c : Fin 4096) :
    k0_pay4 (F := Ideal) x top bot (ix2 r c) = P (i0 + r.val + 2) (c.val + 1) := by
  unfold k0_pay4
  pointwise
  rw [rows_apply h]
  congr 1
  simp only
  omega

/-- The middle one of the three rows. -/
def row1 (x : S256x4096.Idx → EReal) (top bot : S1x1x4096.Idx → EReal) : S256x4096.Idx → EReal :=
  extractStridedSlice S256x4096 ![1, 0] (k0_pay2 (F := Ideal) x top bot) slices_S258x4096_o1_0_S256x4096

theorem row1_apply (h : Reads P i0 x top bot) (r : Fin 256) (c : Fin 4096) :
    row1 x top bot (ix2 r c) = P (i0 + r.val + 1) (c.val + 1) := by
  unfold row1
  pointwise
  rw [rows_apply h]
  congr 1
  simp only
  omega

/-! ## The shifts along the rows -/

/-- The value one column to the right, zero at the last column. -/
def shiftR (v : S256x4096.Idx → EReal) : S256x4096.Idx → EReal :=
  select (cmpi .eq (iota .tc S256x4096 32 [1] iota_S256x4096_d1_w32) (broadcast S256x4096 4095#32))
    (broadcast S256x4096 (Scalar.ofBits (F := Ideal) .f32 0x00000000#32))
    (dynamicRotate 1 4095#32 none v rotates_S256x4096_d1)

/-- The value one column to the left, zero at the first column. -/
def shiftL (v : S256x4096.Idx → EReal) : S256x4096.Idx → EReal :=
  select (cmpi .eq (iota .tc S256x4096 32 [1] iota_S256x4096_d1_w32) (broadcast S256x4096 0#32))
    (broadcast S256x4096 (Scalar.ofBits (F := Ideal) .f32 0x00000000#32))
    (dynamicRotate 1 1#32 none v rotates_S256x4096_d1)

/-- A rotation along the rows by `n` columns. -/
theorem rotate_apply (v : S256x4096.Idx → EReal) (n : BitVec 32) (r : Fin 256) (c d : Fin 4096)
    (hd : (c.val + 4096 - n.toNat % 4096) % 4096 = d.val) :
    dynamicRotate 1 n none v rotates_S256x4096_d1 (ix2 r c) = v (ix2 r d) := by
  pointwise
  refine congrArg (fun k => v (ix2 r k)) (Fin.ext ?_)
  simpa using hd

/-- The column numbers. -/
theorem cols_apply (r : Fin 256) (c : Fin 4096) :
    iota .tc S256x4096 32 [1] iota_S256x4096_d1_w32 (ix2 r c) = BitVec.ofNat 32 c.val := by
  pointwise

theorem shiftR_apply (v : S256x4096.Idx → EReal) (r : Fin 256) (c : Fin 4096) :
    shiftR v (ix2 r c) = if hc : c.val + 1 < 4096 then v (ix2 r ⟨c.val + 1, hc⟩) else 0 := by
  show Scalar.select (IntOp.cmpi .eq (iota .tc S256x4096 32 [1] iota_S256x4096_d1_w32 (ix2 r c)) (BitVec.ofNat 32 4095))
    (Ideal.ofBits .f32 0x00000000#32) (dynamicRotate 1 4095#32 none v rotates_S256x4096_d1 (ix2 r c)) = _
  have hlt := c.isLt
  rw [cols_apply, WordCmp.cmpi_eq_ofNat (by omega) (by omega), Scalar.select_decide, Ideal.ofBits_zero_f32]
  by_cases hc : c.val + 1 < 4096
  · rw [if_neg (by omega), dif_pos hc]
    exact rotate_apply v _ r c ⟨c.val + 1, hc⟩ (by rw [show (4095#32 : BitVec 32).toNat = 4095 from rfl]; simp only; omega)
  · rw [if_pos (by omega), dif_neg hc]

theorem shiftL_apply (v : S256x4096.Idx → EReal) (r : Fin 256) (c : Fin 4096) :
    shiftL v (ix2 r c) = if 0 < c.val then v (ix2 r ⟨c.val - 1, by omega⟩) else 0 := by
  show Scalar.select (IntOp.cmpi .eq (iota .tc S256x4096 32 [1] iota_S256x4096_d1_w32 (ix2 r c)) (BitVec.ofNat 32 0))
    (Ideal.ofBits .f32 0x00000000#32) (dynamicRotate 1 1#32 none v rotates_S256x4096_d1 (ix2 r c)) = _
  have hlt := c.isLt
  rw [cols_apply, WordCmp.cmpi_eq_ofNat (by omega) (by omega), Scalar.select_decide, Ideal.ofBits_zero_f32]
  by_cases hc : 0 < c.val
  · rw [if_neg (by omega), if_pos hc]
    exact rotate_apply v _ r c ⟨c.val - 1, by omega⟩ (by rw [show (1#32 : BitVec 32).toNat = 1 from rfl]; simp only; omega)
  · rw [if_pos (by omega), if_neg hc]

/-- A shift of values `f`, read one column ahead, that vanish past the last column. -/
theorem shiftR_of {v : S256x4096.Idx → EReal} {f : ℕ → ℕ → EReal} (hv : ∀ (r : Fin 256) (c : Fin 4096), v (ix2 r c) = f r.val (c.val + 1))
    (h0 : ∀ r, f r 4097 = 0) (r : Fin 256) (c : Fin 4096) : shiftR v (ix2 r c) = f r.val (c.val + 2) := by
  rw [shiftR_apply]
  split_ifs with hc
  · exact hv _ _
  · rw [show c.val + 2 = 4097 by omega, h0]

theorem shiftL_of {v : S256x4096.Idx → EReal} {f : ℕ → ℕ → EReal} (hv : ∀ (r : Fin 256) (c : Fin 4096), v (ix2 r c) = f r.val (c.val + 1))
    (h0 : ∀ r, f r 0 = 0) (r : Fin 256) (c : Fin 4096) : shiftL v (ix2 r c) = f r.val c.val := by
  rw [shiftL_apply]
  split_ifs with hc
  · rw [hv, Nat.sub_add_cancel hc]
  · rw [show c.val = 0 by omega, h0]

/-! ## The gradients -/

/-- The block's column sums. -/
def sums (x : S256x4096.Idx → EReal) (top bot : S1x1x4096.Idx → EReal) : S256x4096.Idx → EReal :=
  addf (F := Ideal) (φ := .f32)
    (addf (k0_pay3 (F := Ideal) x top bot) (mulf (broadcast S256x4096 (Scalar.ofBits (F := Ideal) .f32 0x40000000#32)) (row1 x top bot)))
    (k0_pay4 (F := Ideal) x top bot)

theorem sums_apply (h : Reads P i0 x top bot) (r : Fin 256) (c : Fin 4096) :
    sums x top bot (ix2 r c) = colSum P (i0 + r.val) (c.val + 1) := by
  unfold sums
  pointwise
  rw [row0_apply h, row1_apply h, row2_apply h, two_f32]
  rfl

theorem diffs_apply (h : Reads P i0 x top bot) (r : Fin 256) (c : Fin 4096) :
    k0_pay5 (F := Ideal) x top bot (ix2 r c) = rowDiff P (i0 + r.val) (c.val + 1) := by
  unfold k0_pay5
  pointwise
  rw [row0_apply h, row2_apply h]
  rfl

theorem gx_eq : k0_pay6 (F := Ideal) x top bot = subf (F := Ideal) (φ := .f32) (shiftR (sums x top bot)) (shiftL (sums x top bot)) := rfl

theorem gx_apply (h : Reads P i0 x top bot) (r : Fin 256) (c : Fin 4096) :
    k0_pay6 (F := Ideal) x top bot (ix2 r c) = gradX P (i0 + r.val) c.val := by
  have hR := shiftR_of (f := fun r c => colSum P (i0 + r) c) (sums_apply h) (by simp [colSum, h.right]) r c
  have hL := shiftL_of (f := fun r c => colSum P (i0 + r) c) (sums_apply h) (by simp [colSum, h.left]) r c
  rw [gx_eq]
  pointwise
  rw [hR, hL]
  rfl

theorem half_eq : k0_pay7 (F := Ideal) x top bot = addf (F := Ideal) (φ := .f32) (shiftL (k0_pay5 (F := Ideal) x top bot))
    (mulf (broadcast S256x4096 (Scalar.ofBits (F := Ideal) .f32 0x40000000#32)) (k0_pay5 (F := Ideal) x top bot)) := rfl

/-- The block's vertical gradient. -/
def gy (x : S256x4096.Idx → EReal) (top bot : S1x1x4096.Idx → EReal) : S256x4096.Idx → EReal :=
  addf (F := Ideal) (φ := .f32) (k0_pay7 (F := Ideal) x top bot) (shiftR (k0_pay5 (F := Ideal) x top bot))

theorem gy_apply (h : Reads P i0 x top bot) (r : Fin 256) (c : Fin 4096) :
    gy x top bot (ix2 r c) = gradY P (i0 + r.val) c.val := by
  have hR := shiftR_of (f := fun r c => rowDiff P (i0 + r) c) (diffs_apply h) (by simp [rowDiff, h.right]) r c
  have hL := shiftL_of (f := fun r c => rowDiff P (i0 + r) c) (diffs_apply h) (by simp [rowDiff, h.left]) r c
  rw [gy, half_eq]
  pointwise
  rw [hR, hL, diffs_apply h, two_f32]
  rfl

/-! ## The magnitude, the edge and the label -/

/-- The block's magnitudes. -/
def mags (x : S256x4096.Idx → EReal) (top bot : S1x1x4096.Idx → EReal) : S256x4096.Idx → EReal :=
  sqrt (F := Ideal) (φ := .f32) (addf (mulf (k0_pay6 (F := Ideal) x top bot) (k0_pay6 (F := Ideal) x top bot)) (mulf (gy x top bot) (gy x top bot)))

theorem mags_apply (h : Reads P i0 x top bot) (r : Fin 256) (c : Fin 4096) :
    mags x top bot (ix2 r c) = mag P (i0 + r.val) c.val := by
  unfold mags
  pointwise
  rw [gx_apply h, gy_apply h]
  rfl

/-- The inner pixels of a block that starts at row `256 · a`. -/
def inner (a : BitVec 32) : IVec S256x4096 1 :=
  andi (andi (andi
    (cmpi .sgt (addi (iota .tc S256x4096 32 [0] iota_S256x4096_d0_w32) (broadcast S256x4096 (Scalar.muli a 256#32))) (broadcast S256x4096 0#32))
    (cmpi .slt (addi (iota .tc S256x4096 32 [0] iota_S256x4096_d0_w32) (broadcast S256x4096 (Scalar.muli a 256#32))) (broadcast S256x4096 4095#32)))
    (cmpi .sgt (iota .tc S256x4096 32 [1] iota_S256x4096_d1_w32) (broadcast S256x4096 0#32)))
    (cmpi .slt (iota .tc S256x4096 32 [1] iota_S256x4096_d1_w32) (broadcast S256x4096 4095#32))

/-- The block's edges. -/
def edges (a : BitVec 32) (x : S256x4096.Idx → EReal) (top bot : S1x1x4096.Idx → EReal) : S256x4096.Idx → EReal :=
  k0_pay9 (F := Ideal) a (iota .tc S256x4096 32 [1] iota_S256x4096_d1_w32) (k0_pay5 (F := Ideal) x top bot)
    (k0_pay6 (F := Ideal) x top bot) (k0_pay7 (F := Ideal) x top bot) k0_pay8

theorem edges_eq (a : BitVec 32) : edges a x top bot
    = select (andi (andi (cmpf (F := Ideal) (φ := .f32) .oge (mags x top bot) (shiftL (mags x top bot)))
        (cmpf (F := Ideal) (φ := .f32) .oge (mags x top bot) (shiftR (mags x top bot)))) (inner a))
      (mags x top bot) (broadcast S256x4096 (Scalar.ofBits (F := Ideal) .f32 0x00000000#32)) := rfl

theorem inner_apply (t : Fin 16) (r : Fin 256) (c : Fin 4096) :
    inner (BitVec.ofNat 32 t.val) (ix2 r c) = 1#1
      ↔ 1 ≤ 256 * t.val + r.val ∧ 256 * t.val + r.val ≤ 4094 ∧ 1 ≤ c.val ∧ c.val ≤ 4094 := by
  have ht := t.isLt
  have hr := r.isLt
  have hc := c.isLt
  have hrow : IntOp.addi (BitVec.ofNat 32 r.val) (Scalar.muli (BitVec.ofNat 32 t.val) 256#32)
      = BitVec.ofNat 32 (r.val + t.val * 256) := by
    rw [← WordCmp.addi_ofNat, ← WordCmp.muli_ofNat]
    rfl
  unfold inner
  pointwise
  simp only [IntOp.andi_eq_one, hrow]
  rw [WordCmp.cmpi_sgt_ofNat_eq_one_iff (by omega) (by omega), WordCmp.cmpi_slt_ofNat_eq_one_iff (by omega) (by omega),
    WordCmp.cmpi_sgt_ofNat_eq_one_iff (by omega) (by omega), WordCmp.cmpi_slt_ofNat_eq_one_iff (by omega) (by omega)]
  omega

theorem edges_apply (t : Fin 16) (h : Reads P (256 * t.val) x top bot) (r : Fin 256) (c : Fin 4096) :
    edges (BitVec.ofNat 32 t.val) x top bot (ix2 r c) = edge P (256 * t.val + r.val) c.val := by
  rw [edges_eq]
  pointwise
  rw [Scalar.select_def, edge]
  by_cases hi : 1 ≤ 256 * t.val + r.val ∧ 256 * t.val + r.val ≤ 4094 ∧ 1 ≤ c.val ∧ c.val ≤ 4094
  · have hl : shiftL (mags x top bot) (ix2 r c) = mag P (256 * t.val + r.val) (c.val - 1) := by
      rw [shiftL_apply, if_pos (by omega), mags_apply h]
    have hr : shiftR (mags x top bot) (ix2 r c) = mag P (256 * t.val + r.val) (c.val + 1) := by
      rw [shiftR_apply, dif_pos (by omega), mags_apply h]
    rw [hl, hr, mags_apply h]
    refine if_congr ?_ rfl rfl
    have hi' := (inner_apply t r c).mpr hi
    show IntOp.andi _ _ = 1#1 ↔ _
    rw [IntOp.andi_eq_one, IntOp.andi_eq_one, WordCmp.ofBool_decide_eq_one_iff, WordCmp.ofBool_decide_eq_one_iff]
    tauto
  · have hi' := mt (inner_apply t r c).mp hi
    exact (if_neg fun hh => hi' (IntOp.andi_eq_one.mp hh).2).trans (if_neg fun hh => hi hh.1).symm

/-- The block the body stores: the labels of its edges. -/
theorem labels_apply (t : Fin 16) (h : Reads P (256 * t.val) x top bot) (r : Fin 256) (c : Fin 4096) :
    k0_pay1 (F := Ideal) (edges (BitVec.ofNat 32 t.val) x top bot)
      (cmpf (F := Ideal) (φ := .f32) .ogt (edges (BitVec.ofNat 32 t.val) x top bot) (broadcast S256x4096 (Scalar.ofBits (F := Ideal) .f32 0x3E19999A#32)))
      (cmpf (F := Ideal) (φ := .f32) .oge (edges (BitVec.ofNat 32 t.val) x top bot) (broadcast S256x4096 (Scalar.ofBits (F := Ideal) .f32 0x3D4CCCCD#32)))
      (Scalar.ofBits (F := Ideal) .f32 0x00000000#32) (ix2 r c) = label (edge P (256 * t.val + r.val) c.val) := by
  unfold k0_pay1
  pointwise
  rw [edges_apply t h]
  rfl

end Cert.Sobel.Block

end
-- ==== Proof.Whole.lean ====
/- What the kernel's result array holds after the run: the label of the suppressed edge at each pixel of the image. -/
module

public import proofs.«01_k».proof.Proof.Gen.KernelIdeal.Value
public import proofs.«01_k».proof.Proof.Block
public import Idealize.ShloMosaic.Lib.Pipeline.ValueKit

@[expose] public section

noncomputable section

namespace Cert.Sobel.Whole

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The image of device `c`. -/
abbrev image (c : Dev nD) (r k : Fin 4096) : EReal := m ((c : Thread nD τ).loc main_arg0) (ix4 0 0 r k)

/-- The labels of device `c`'s image. -/
def labels (c : Dev nD) : S4096x4096.Idx → EReal := fun i => label (edge (padded (image m c)) (i 0).val (i 1).val)

/-! ## The arrays the host hands to the kernel -/

theorem plane_apply (c : Dev nD) (r k : Fin 4096) : V m c main_call0_v0 (ix2 r k) = padded (image m c) (r.val + 1) (k.val + 1) := by
  rw [padded_inner]
  entry_read
  pointwise

theorem above_apply (c : Dev nD) (t : Fin 16) (k : Fin 4096) : V m c main_call0_v4 (ix3 t 0 k) = padded (image m c) (256 * t.val) (k.val + 1) := by
  have ht := t.isLt
  have hk := k.isLt
  entry_read
  simp only [StableHlo.TRef.toBuf, StableHlo.TRef.ofBuf, cast_eq]
  pointwise
  by_cases h : t.val < 1
  · rw [dif_pos h, padded, dif_neg (by omega)]
  · rw [dif_neg h, padded, dif_pos (by omega)]
    refine congrArg₂ (image m c) (Fin.ext ?_) (Fin.ext ?_)
    · show 255 + 256 * (t.val - 1) = 256 * t.val - 1
      omega
    · rfl

theorem below_apply (c : Dev nD) (t : Fin 16) (k : Fin 4096) : V m c main_call0_v7 (ix3 t 0 k) = padded (image m c) (256 * t.val + 257) (k.val + 1) := by
  have ht := t.isLt
  have hk := k.isLt
  entry_read
  simp only [StableHlo.TRef.toBuf, StableHlo.TRef.ofBuf, cast_eq]
  pointwise
  by_cases h : t.val < 15
  · rw [dif_pos h, padded, dif_pos (by omega)]
    refine congrArg₂ (image m c) (Fin.ext ?_) (Fin.ext ?_)
    · show 256 + 256 * t.val = 256 * t.val + 257 - 1
      omega
    · rfl
  · rw [dif_neg h, padded, dif_neg (by omega)]

/-! ## The blocks -/

theorem idx_facts : ∀ t : Fin cfg0.N, (win0_0.index t = ![t.val, 0] ∧ win0_1.index t = ![t.val, 0, 0] ∧ win0_2.index t = ![t.val, 0, 0]
    ∧ win0_3.index t = ![t.val, 0]) ∧ (grid0.coords t 0).val = t.val :=
  (by decide +kernel : ∀ t : Fin grid0.N, (win0_0.index t = ![t.val, 0] ∧ win0_1.index t = ![t.val, 0, 0] ∧ win0_2.index t = ![t.val, 0, 0]
    ∧ win0_3.index t = ![t.val, 0]) ∧ (grid0.coords t 0).val = t.val)

theorem reads (c : Dev nD) (t : Fin cfg0.N) :
    Block.Reads (padded (image m c)) (256 * t.val) (iblk m c 0 t) (iblk m c 1 t) (iblk m c 2 t) where
  left i := by rw [padded, dif_neg (by omega)]
  right i := by rw [padded, dif_neg (by omega)]
  mid r k := by
    have ht : t.val < 16 := t.isLt
    have e : iblk m c 0 t (ix2 r k) = V m c main_call0_v0 (ix2 ⟨256 * t.val + r.val, by omega⟩ k) := by
      blk_ext [iblk, (idx_facts t).1.1]
    rw [e, plane_apply]
    rfl
  above k := by
    have ht : t.val < 16 := t.isLt
    have e : iblk m c 1 t (ix3 0 0 k) = V m c main_call0_v4 (ix3 ⟨t.val, ht⟩ 0 k) := by
      blk_ext [iblk, (idx_facts t).1.2.1]
    rw [e, above_apply]
  below k := by
    have ht : t.val < 16 := t.isLt
    have e : iblk m c 2 t (ix3 0 0 k) = V m c main_call0_v7 (ix3 ⟨t.val, ht⟩ 0 k) := by
      blk_ext [iblk, (idx_facts t).1.2.2.1]
    rw [e, below_apply]

/-! ## The result array -/

theorem final (c : Dev nD) : (dats m 0 c).arrAt 3 cfg0.N = labels m c := by
  refine (dats m 0 c).arrAt_eq_of_covers 3 _ (by decide +kernel) fun t hf y => ?_
  blk_simp
  rw [after0_3]
  unfold_out out0_3
  frame_out
  rw [(idx_facts t).2]
  idx_vars y
  have ht : t.val < 16 := t.isLt
  refine (Block.labels_apply ⟨t.val, ht⟩ (reads m c t) y0 y1).trans ?_
  unfold labels
  blk_simp [(idx_facts t).1.2.2.2]
  rw [Nat.mul_comm]

theorem run : θ_run defs (onTc (τ := τ) (main (F := Ideal))) ⟨m, fun _ => 0, ρ⟩ fun r => ∀ c : Dev nD,
      r.2.mem ((c : Thread nD τ).loc main_v0) = labels m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.Sobel.Whole

end
-- ==== Proof.Plain.lean ====
/- What the reference's arrays hold at an index: its padded image, its two gradients, the magnitude and the angle. -/
module

public import proofs.«01_k».proof.Proof.Gen.ReferenceIdeal.Run
public import proofs.«01_k».proof.Proof.Gradient
public import Idealize.ShloMosaic.Lib.Pointwise

@[expose] public section

noncomputable section

namespace Cert.Sobel.Plain

open Idealize.ShloMosaic Idealize.ShloMosaic.TcCoe Idealize.SL.Sem Cert.ReferenceIdeal Cert.ReferenceIdeal.Gen Cert.ReferenceIdeal.Value

variable (X : Valuation τ sig (Elt Ideal))

/-- The image. -/
abbrev image (r k : Fin 4096) : EReal := X (Proc.devRef .tc main_arg0) (ix4 0 0 r k)

theorem pad_apply (r k : Fin 4098) : res_main_v0 X (ix4 0 0 r k) = padded (image X) r.val k.val := by
  unfold res_main_v0
  pointwise
  unfold padded
  by_cases h : (1 ≤ r.val ∧ r.val < 4097) ∧ 1 ≤ k.val ∧ k.val < 4097
  · rw [dif_pos h]
    refine dif_pos fun a => ?_
    match a with
    | ⟨0, _⟩ =>
      show 0 ≤ 0 ∧ (0 - 0) % (0 + 1) = 0 ∧ (0 - 0) / (0 + 1) < 1
      omega
    | ⟨1, _⟩ =>
      show 0 ≤ 0 ∧ (0 - 0) % (0 + 1) = 0 ∧ (0 - 0) / (0 + 1) < 1
      omega
    | ⟨2, _⟩ =>
      show 1 ≤ r.val ∧ (r.val - 1) % (0 + 1) = 0 ∧ (r.val - 1) / (0 + 1) < 4096
      omega
    | ⟨3, _⟩ =>
      show 1 ≤ k.val ∧ (k.val - 1) % (0 + 1) = 0 ∧ (k.val - 1) / (0 + 1) < 4096
      omega
  · rw [dif_neg h]
    refine (dif_neg fun ha => h ?_).trans ?_
    · have h2 : 1 ≤ r.val ∧ (r.val - 1) % (0 + 1) = 0 ∧ (r.val - 1) / (0 + 1) < 4096 := ha (2 : Fin 4)
      have h3 : 1 ≤ k.val ∧ (k.val - 1) % (0 + 1) = 0 ∧ (k.val - 1) / (0 + 1) < 4096 := ha (3 : Fin 4)
      omega
    · show (((0#32 : BitVec 32).toInt : ℝ) : EReal) = 0
      simp

theorem pad_again (r k : Fin 4098) : res_main_v38 X (ix4 0 0 r k) = padded (image X) r.val k.val := pad_apply X r k

/-! ## The gradients -/

theorem gx_apply (i j : Fin 4096) : res_main_v37 X (ix4 0 0 i j) = refX (padded (image X)) i.val j.val := by
  unfold res_main_v37
  pointwise
  simp only [pad_apply, neg_one_f32, neg_two_f32, two_f32, zero_mul, add_zero, Nat.add_comm _ i.val, Nat.add_comm _ j.val, refX]

theorem gy_apply (i j : Fin 4096) : res_main_v75 X (ix4 0 0 i j) = refY (padded (image X)) i.val j.val := by
  unfold res_main_v75
  pointwise
  simp only [pad_again, neg_one_f32, neg_two_f32, two_f32, zero_mul, add_zero, Nat.add_comm _ i.val, Nat.add_comm _ j.val, refY]

theorem mag_apply (i j : Fin 4096) : res_main_v81 X (ix2 i j) = mag (padded (image X)) i.val j.val := by
  unfold res_main_v81
  pointwise
  simp only [gx_apply, gy_apply]
  exact refMag _ _ _

theorem angle_apply (i j : Fin 4094) : res_main_v83 X (ix2 i j)
    = Ideal.atan2 (refY (padded (image X)) (i.val + 1) (j.val + 1)) (refX (padded (image X)) (i.val + 1) (j.val + 1)) := by
  unfold res_main_v83
  pointwise
  simp only [gx_apply, gy_apply, Nat.add_comm 1]

theorem center_apply (i j : Fin 4094) : res_main_v84 X (ix2 i j) = mag (padded (image X)) (i.val + 1) (j.val + 1) := by
  unfold res_main_v84
  pointwise
  simp only [mag_apply, Nat.add_comm 1]

end Cert.Sobel.Plain

end
-- ==== Proof.Border.lean ====
/- What frames the reference's edges and what labels them, at an index: the inner pixels written into an array of zeros
   from row one and column one on, and the two thresholds. -/
module

public import proofs.«01_k».proof.Proof.Gen.ReferenceIdeal.Run
public import proofs.«01_k».proof.Proof.Gradient
public import Idealize.ShloMosaic.Lib.Pointwise
public import Idealize.ShloMosaic.Lib.WordCmp
public import Idealize.ShloMosaic.Lib.Affine
public import Idealize.ShloMosaic.Lib.Routing.OpsPair
public import Idealize.ShloMosaic.Lib.Routing.OpsOne
public import Idealize.ShloMosaic.Lib.Routing.OpsSet

@[expose] public section

noncomputable section

namespace Cert.Sobel.Border

open Idealize.ShloMosaic Cert.ReferenceIdeal Cert.ReferenceIdeal.Gen

/-- The row and the column the inner pixels start at. -/
def corner : IVec S2 32 :=
  concatenate S2 0 [⟨S1, broadcastInDim S1 ![] bcast_S_S1 (constantI S_ 32 1#32)⟩, ⟨S1, broadcastInDim S1 ![] bcast_S_S1 (constantI S_ 32 1#32)⟩]
    concatenates_S1_S1_S2_d0

theorem corner_apply (q : S2.Idx) : corner q = 1#32 := by
  unfold corner
  pointwise
  exact dite_eq_ite.trans (ite_self _)

/-- Zeros. -/
def blank : S4096x4096.Idx → EReal := broadcastInDim S4096x4096 ![] bcast_S_S4096x4096 (constant (F := Ideal) S_ .f32 0x00000000#32)

theorem blank_apply (q : S4096x4096.Idx) : blank q = 0 := by
  unfold blank
  pointwise

/-- Inner pixel `k` lands one row down and one column to the right. -/
theorem lands (k : S4094x4094.Idx) (i : S4096x4096.Idx) :
    scatter_S4096x4096_S2_S4094x4094_01_n_01_0.resultIdx? k corner = some i ↔ (k 0).val + 1 = (i 0).val ∧ (k 1).val + 1 = (i 1).val := by
  have hs : ∀ q : Fin 2, scatter_S4096x4096_S2_S4094x4094_01_n_01_0.start k corner q = 1 := fun q => by
    rw [Routing.start_pair scatter_S4096x4096_S2_S4094x4094_01_n_01_0 rfl rfl corner k q, corner_apply]
    rfl
  have hw0 : scatter_S4096x4096_S2_S4094x4094_01_n_01_0.window k 0 = (k 0).val := rfl
  have hw1 : scatter_S4096x4096_S2_S4094x4094_01_n_01_0.window k 1 = (k 1).val := rfl
  rw [Routing.resultIdx?_eq_some]
  constructor
  · intro h
    have h0 := h 0
    have h1 := h 1
    rw [hs, hw0] at h0
    rw [hs, hw1] at h1
    omega
  · intro h a
    match a with
    | ⟨0, _⟩ =>
      show scatter_S4096x4096_S2_S4094x4094_01_n_01_0.start k corner 0 + (scatter_S4096x4096_S2_S4094x4094_01_n_01_0.window k 0 : Int) = ((i 0).val : Int)
      rw [hs, hw0]
      omega
    | ⟨1, _⟩ =>
      show scatter_S4096x4096_S2_S4094x4094_01_n_01_0.start k corner 1 + (scatter_S4096x4096_S2_S4094x4094_01_n_01_0.window k 1 : Int) = ((i 1).val : Int)
      rw [hs, hw1]
      omega

theorem framed_inner (u : S4094x4094.Idx → EReal) (i j : Fin 4094) :
    Host.scatter scatter_S4096x4096_S2_S4094x4094_01_n_01_0 (fun _ b => b) blank corner u (ix2 ⟨i.val + 1, by omega⟩ ⟨j.val + 1, by omega⟩)
      = u (ix2 i j) := by
  refine Routing.scatter_set_hit _ _ _ _ _ _ (fun k hk => congrArg u ?_) (ix2 i j) ((lands _ _).mpr ⟨rfl, rfl⟩)
  have h := (lands _ _).mp hk
  idx_vars k
  exact congrArg₂ ix2 (Fin.ext (Nat.succ.inj h.1)) (Fin.ext (Nat.succ.inj h.2))

theorem framed_outer (u : S4094x4094.Idx → EReal) (i j : Fin 4096) (h : ¬ (1 ≤ i.val ∧ i.val ≤ 4094 ∧ 1 ≤ j.val ∧ j.val ≤ 4094)) :
    Host.scatter scatter_S4096x4096_S2_S4094x4094_01_n_01_0 (fun _ b => b) blank corner u (ix2 i j) = 0 := by
  rw [Routing.scatter_set_miss, blank_apply]
  intro k hk
  have h' := (lands _ _).mp hk
  have h0 : (k 0).val < 4094 := (k 0).isLt
  have h1 : (k 1).val < 4094 := (k 1).isLt
  have e0 : (k 0).val + 1 = i.val := h'.1
  have e1 : (k 1).val + 1 = j.val := h'.2
  omega

/-- The labels of the edges `E`. -/
def labeled (E : S4096x4096.Idx → EReal) : S4096x4096.Idx → EReal :=
  select (cmpf (F := Ideal) (φ := .f32) .ogt E (broadcastInDim S4096x4096 ![] bcast_S_S4096x4096 (constant (F := Ideal) S_ .f32 0x3E19999A#32)))
    (broadcastInDim S4096x4096 ![] bcast_S_S4096x4096 (constant (F := Ideal) S_ .f32 0x437F0000#32))
    (select (andi (cmpf (F := Ideal) (φ := .f32) .oge E (broadcastInDim S4096x4096 ![] bcast_S_S4096x4096 (constant (F := Ideal) S_ .f32 0x3D4CCCCD#32)))
        (cmpf (F := Ideal) (φ := .f32) .ole E (broadcastInDim S4096x4096 ![] bcast_S_S4096x4096 (constant (F := Ideal) S_ .f32 0x3E19999A#32))))
      (broadcastInDim S4096x4096 ![] bcast_S_S4096x4096 (constant (F := Ideal) S_ .f32 0x00000000#32)) E)

theorem labeled_apply (E : S4096x4096.Idx → EReal) (i j : Fin 4096) : labeled E (ix2 i j) = label (E (ix2 i j)) := by
  unfold labeled
  pointwise
  rw [← label_eq, Scalar.select_def]
  refine if_congr Iff.rfl rfl (if_congr ?_ rfl rfl)
  show IntOp.andi _ _ = 1#1 ↔ _
  rw [IntOp.andi_eq_one, WordCmp.ofBool_decide_eq_one_iff, WordCmp.ofBool_decide_eq_one_iff]

end Cert.Sobel.Border

end
-- ==== Proof.Edges.lean ====
/- The reference's edges at an index: the suppressed inner pixels, framed by zeros; and the labels of
   them, the reference's result. -/
module

public import proofs.«01_k».proof.Proof.Gen.ReferenceIdeal.Run
public import proofs.«01_k».proof.Proof.Plain
public import proofs.«01_k».proof.Proof.Border
public import Idealize.ShloMosaic.Lib.Pointwise
public import Idealize.ShloMosaic.Lib.WordCmp
public import Idealize.ShloMosaic.Lib.Affine

@[expose] public section

noncomputable section

namespace Cert.Sobel.Plain

open Idealize.ShloMosaic Idealize.ShloMosaic.TcCoe Idealize.SL.Sem Cert.ReferenceIdeal Cert.ReferenceIdeal.Gen Cert.ReferenceIdeal.Value

variable (X : Valuation τ sig (Elt Ideal))

/-! ## The edges -/

/-- An angle within twenty-two and a half either way is in the first band. -/
theorem first_apply (i j : Fin 4094)
    (h : ((-22.5 : ℝ) : EReal) ≤ Ideal.atan2 (refY (padded (image X)) (i.val + 1) (j.val + 1)) (refX (padded (image X)) (i.val + 1) (j.val + 1))
      ∧ Ideal.atan2 (refY (padded (image X)) (i.val + 1) (j.val + 1)) (refX (padded (image X)) (i.val + 1) (j.val + 1)) ≤ ((22.5 : ℝ) : EReal)) :
    res_main_v101 X (ix2 i j) = 1#1 := by
  unfold res_main_v101
  pointwise
  rw [angle_apply, band_f32, neg_band_f32]
  refine IntOp.ori_eq_one.mpr (Or.inl (IntOp.ori_eq_one.mpr (Or.inl (IntOp.andi_eq_one.mpr ?_))))
  rw [WordCmp.ofBool_decide_eq_one_iff, WordCmp.ofBool_decide_eq_one_iff]
  exact h

/-- What is compared with on one side: `l` in the first band, `o` in another. -/
def side (l o : S4094x4094.Idx → EReal) : S4094x4094.Idx → EReal := select (res_main_v101 X) l o

theorem side_apply (l o : S4094x4094.Idx → EReal) (i j : Fin 4094) :
    side X l o (ix2 i j) ≤ mag (padded (image X)) (i.val + 1) (j.val + 1) ↔ l (ix2 i j) ≤ mag (padded (image X)) (i.val + 1) (j.val + 1) := by
  unfold side
  pointwise
  rw [Scalar.select_def, ← refMag]
  exact side_le (first_apply X i j)

/-- The inner pixels' magnitudes where neither side exceeds them, zero elsewhere. -/
def thin (p q : S4094x4094.Idx → EReal) : S4094x4094.Idx → EReal :=
  select (andi (cmpf (F := Ideal) (φ := .f32) .oge (res_main_v84 X) p) (cmpf (F := Ideal) (φ := .f32) .oge (res_main_v84 X) q)) (res_main_v84 X)
    (broadcastInDim S4094x4094 ![] bcast_S_S4094x4094 (constant (F := Ideal) S_ .f32 0x00000000#32))

/-- The magnitudes from row `k 0` and column `k 1` on. -/
def beside (k : Fin 2 → ℕ) (h : S4096x4096.Slices k S4094x4094) : S4094x4094.Idx → EReal := extractStridedSlice S4094x4094 k (res_main_v81 X) h

theorem left_apply (i j : Fin 4094) :
    beside X ![1, 0] slices_S4096x4096_S4094x4094_1_0 (ix2 i j) = mag (padded (image X)) (i.val + 1) j.val := by
  unfold beside
  pointwise
  simp only [mag_apply, Nat.add_comm 1]

theorem right_apply (i j : Fin 4094) :
    beside X ![1, 2] slices_S4096x4096_S4094x4094_1_2 (ix2 i j) = mag (padded (image X)) (i.val + 1) (j.val + 2) := by
  unfold beside
  pointwise
  simp only [mag_apply, Nat.add_comm 1, Nat.add_comm 2]

theorem thin_apply (o o' : S4094x4094.Idx → EReal) (i j : Fin 4094) :
    thin X (side X (beside X ![1, 0] slices_S4096x4096_S4094x4094_1_0) o) (side X (beside X ![1, 2] slices_S4096x4096_S4094x4094_1_2) o') (ix2 i j)
      = edge (padded (image X)) (i.val + 1) (j.val + 1) := by
  have hi := i.isLt
  have hj := j.isLt
  unfold thin
  pointwise
  rw [center_apply, Scalar.select_def, edge]
  refine if_congr ?_ rfl rfl
  show IntOp.andi _ _ = 1#1 ↔ _
  rw [IntOp.andi_eq_one, WordCmp.ofBool_decide_eq_one_iff, WordCmp.ofBool_decide_eq_one_iff, side_apply, side_apply, left_apply, right_apply]
  exact ⟨fun h => ⟨⟨by omega, by omega, by omega, by omega⟩, h⟩, fun h => h.2⟩

theorem inner_lt (a : Fin 4094) : a.val + 1 < 4096 := by omega

theorem edges_apply (i j : Fin 4096) : res_main_v147 X (ix2 i j) = edge (padded (image X)) i.val j.val := by
  by_cases h : 1 ≤ i.val ∧ i.val ≤ 4094 ∧ 1 ≤ j.val ∧ j.val ≤ 4094
  · obtain ⟨a, rfl⟩ : ∃ a : Fin 4094, i = ⟨a.val + 1, inner_lt a⟩ := ⟨⟨i.val - 1, by omega⟩, Fin.ext (by simp only; omega)⟩
    obtain ⟨b, rfl⟩ : ∃ b : Fin 4094, j = ⟨b.val + 1, inner_lt b⟩ := ⟨⟨j.val - 1, by omega⟩, Fin.ext (by simp only; omega)⟩
    exact (Border.framed_inner _ a b).trans (thin_apply X _ _ a b)
  · exact (Border.framed_outer _ i j h).trans (if_neg fun hh => h hh.1).symm

/-! ## The reference's result -/

theorem result_eq : Border.labeled (res_main_v147 X) = fun i => label (edge (padded (image X)) (i 0).val (i 1).val) := by
  funext i
  idx_vars i
  rw [Border.labeled_apply, edges_apply]

end Cert.Sobel.Plain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Whole
public import proofs.«01_k».proof.Proof.Edges
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference leaves its argument as it was and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with the same labels. -/
theorem same_labels : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Sobel.Whole.labels m c, Cert.Sobel.Whole.run m ρ, ?_⟩
  refine (θ_run Cert.ReferenceIdeal.defs _ _).mono (fun _ h c => ⟨((h c).1.trans (Cert.Sobel.Plain.result_eq _)).trans ?_, (h c).2⟩)
    (Cert.ReferenceIdeal.Value.run (F := Ideal) m' ρ')
  have e : Cert.Sobel.Plain.image (StableHlo.launchContents m' c) = Cert.Sobel.Whole.image m c := by
    funext r k
    exact congrFun (hagree c) (ix4 0 0 r k)
  rw [e]
  rfl

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_labels⟩

end Cert.Proof

end
